-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x3 : Shape := ⟨2, ![3, 3]⟩
abbrev S_ : Shape := ⟨0, ![]⟩
abbrev S16 : Shape := ⟨1, ![16]⟩
abbrev S1x3x3x1 : Shape := ⟨4, ![1, 3, 3, 1]⟩

abbrev nBuf : Table → Nat
  | .hbm => 4
  | .local .scVector .vmem => 3
  | _ => 0

abbrev bufTy : (tb : Table) → Fin (nBuf tb) → BufTy
  | .hbm, ⟨0, _⟩ => ⟨S3x3, .f32⟩
  | .hbm, ⟨1, _⟩ => ⟨S3x3, .f32⟩
  | .hbm, ⟨2, _⟩ => ⟨S3x3, .f32⟩
  | .hbm, ⟨3, _⟩ => ⟨S1x3x3x1, .f32⟩
  | .local .scVector .vmem, ⟨0, _⟩ => ⟨S3x3, .f32⟩
  | .local .scVector .vmem, ⟨1, _⟩ => ⟨S3x3, .f32⟩
  | .local .scVector .vmem, ⟨2, _⟩ => ⟨S3x3, .f32⟩
  | _, _ => ⟨S3x3, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_arg1_scv : Ref sig .scVector := ⟨.hbm, 1, rfl⟩
abbrev main_arg0_scv : Ref sig .scVector := ⟨.hbm, 0, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 1], ![false, false]⟩

def k0_chk1 (v11 : IVec S16 32) (v16 : IVec S16 32) (v21 : IVec S16 32) : Prop :=
  (∀ a x, ((![v11, v21] : Fin 2 → IVec S16 32) a x).toNat < S3x3.size a) ∧
  (∀ a x, ((![v21, v16] : Fin 2 → IVec S16 32) a x).toNat < S3x3.size a)
theorem k0_idx1_inb : ∀ (v11 : IVec S16 32) (v16 : IVec S16 32) (v21 : IVec S16 32) (k0_hw1 : k0_chk1 v11 v16 v21), ∀ a x, ((![v11, v21] : Fin 2 → IVec S16 32) a x).toNat < S3x3.size a := fun v11 v16 v21 k0_hw1 => k0_hw1.1
theorem k0_idx2_inb : ∀ (v11 : IVec S16 32) (v16 : IVec S16 32) (v21 : IVec S16 32) (k0_hw1 : k0_chk1 v11 v16 v21), ∀ a x, ((![v21, v16] : Fin 2 → IVec S16 32) a x).toNat < S3x3.size a := fun v11 v16 v21 k0_hw1 => k0_hw1.2

def k0_chk2 (v11 : IVec S16 32) (v16 : IVec S16 32) (v26 : IVec S16 32) : Prop :=
  (∀ a x, ((![v11, v26] : Fin 2 → IVec S16 32) a x).toNat < S3x3.size a) ∧
  (∀ a x, ((![v26, v16] : Fin 2 → IVec S16 32) a x).toNat < S3x3.size a)
theorem k0_idx3_inb : ∀ (v11 : IVec S16 32) (v16 : IVec S16 32) (v26 : IVec S16 32) (k0_hw2 : k0_chk2 v11 v16 v26), ∀ a x, ((![v11, v26] : Fin 2 → IVec S16 32) a x).toNat < S3x3.size a := fun v11 v16 v26 k0_hw2 => k0_hw2.1
theorem k0_idx4_inb : ∀ (v11 : IVec S16 32) (v16 : IVec S16 32) (v26 : IVec S16 32) (k0_hw2 : k0_chk2 v11 v16 v26), ∀ a x, ((![v26, v16] : Fin 2 → IVec S16 32) a x).toNat < S3x3.size a := fun v11 v16 v26 k0_hw2 => k0_hw2.2

def k0_chk3 (v11 : IVec S16 32) (v16 : IVec S16 32) (v32 : IVec S16 32) : Prop :=
  (∀ a x, ((![v11, v32] : Fin 2 → IVec S16 32) a x).toNat < S3x3.size a) ∧
  (∀ a x, ((![v32, v16] : Fin 2 → IVec S16 32) a x).toNat < S3x3.size a)
theorem k0_idx5_inb : ∀ (v11 : IVec S16 32) (v16 : IVec S16 32) (v32 : IVec S16 32) (k0_hw3 : k0_chk3 v11 v16 v32), ∀ a x, ((![v11, v32] : Fin 2 → IVec S16 32) a x).toNat < S3x3.size a := fun v11 v16 v32 k0_hw3 => k0_hw3.1
theorem k0_idx6_inb : ∀ (v11 : IVec S16 32) (v16 : IVec S16 32) (v32 : IVec S16 32) (k0_hw3 : k0_chk3 v11 v16 v32), ∀ a x, ((![v32, v16] : Fin 2 → IVec S16 32) a x).toNat < S3x3.size a := fun v11 v16 v32 k0_hw3 => k0_hw3.2

def k0_chk4 (v11 : IVec S16 32) (v16 : IVec S16 32) : Prop :=
  (∀ a x, ((![v11, v16] : Fin 2 → IVec S16 32) a x).toNat < S3x3.size a)
theorem k0_idx7_inb : ∀ (v11 : IVec S16 32) (v16 : IVec S16 32) (k0_hw4 : k0_chk4 v11 v16), ∀ a x, ((![v11, v16] : Fin 2 → IVec S16 32) a x).toNat < S3x3.size a := fun v11 v16 k0_hw4 => k0_hw4
abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 1 | ⟨_ + 1, h⟩ => absurd h (Nat.not_lt.2 (Nat.le_add_left _ _))
-- ==== ReferenceIdeal.lean ====
abbrev S3x3 : Shape := ⟨2, ![3, 3]⟩
abbrev S1x3x3x1 : Shape := ⟨4, ![1, 3, 3, 1]⟩

abbrev nBuf : Space → Nat
  | .hbm => 4
  | .vmem => 0
  | .smem => 0
  | _ => 0

abbrev bufTy : (tb : Table) → Fin (tcTables nBuf tb) → BufTy
  | .hbm, ⟨0, _⟩ => ⟨S3x3, .f32⟩
  | .hbm, ⟨1, _⟩ => ⟨S3x3, .f32⟩
  | .hbm, ⟨2, _⟩ => ⟨S3x3, .f32⟩
  | .hbm, ⟨3, _⟩ => ⟨S1x3x3x1, .f32⟩
  | _, _ => ⟨S3x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Lanes.lean ====
/- The words the kernel computes before it touches its buffers, read lane by lane: the mask, the row, the column and the
   three summation indices. All are closed words over sixteen lanes, so each fact is decided; every range check the
   kernel's gathers and its scatter state follows from them. -/
module

public import proofs.«01_k».proof.Proof.Gen.KernelIdeal
public import proofs.«01_k».proof.Proof.Gen.KernelIdeal.Skeleton

@[expose] public section

noncomputable section

namespace Cert.KernelIdeal.Spmm

open Cert.KernelIdeal Cert.KernelIdeal.Gen Idealize.ShloMosaic

/-- The row every lane names: the quotient of its number by three, cut off at the last row. -/
abbrev rows : IVec S16 32 := k0_pay2
/-- The column every lane names: the remainder of its number by three on the first nine lanes, zero on the others. -/
abbrev cols : IVec S16 32 := k0_pay3 rows

/-- A lane's row is less than three. -/
theorem rows_lt : ∀ x : S16.Idx, (rows x).toNat < 3 := by decide +kernel
/-- A lane's column is less than three. -/
theorem cols_lt : ∀ x : S16.Idx, (cols x).toNat < 3 := by decide +kernel
/-- The first summation index is zero on every lane. -/
theorem first_eq : ∀ x : S16.Idx, (k0_pay5 x).toNat = 0 := by decide +kernel
/-- The second summation index is one on every lane. -/
theorem second_eq : ∀ x : S16.Idx, (k0_pay6 x).toNat = 1 := by decide +kernel
/-- The third summation index is two on every lane. -/
theorem third_eq : ∀ x : S16.Idx, (k0_pay7 x).toNat = 2 := by decide +kernel

/-- Every element of the three by three result has an unmasked lane that names it. -/
theorem lane_of : ∀ a b : Fin 3, ∃ x : S16.Idx, k0_pay1 x = 1 ∧ (rows x).toNat = a.val ∧ (cols x).toNat = b.val := by
  decide +kernel

/-- A pair of index vectors whose words are all less than three is in range in a three by three buffer. -/
theorem pair_lt {p q : IVec S16 32} (hp : ∀ x, (p x).toNat < 3) (hq : ∀ x, (q x).toNat < 3) :
    ∀ (a : Fin 2) (x : S16.Idx), ((![p, q] : Fin 2 → IVec S16 32) a x).toNat < S3x3.size a := fun a x =>
  match a with
  | 0 => hp x
  | 1 => hq x

/-- The scatter's indices are in range. -/
theorem chk_scatter : k0_chk4 rows cols := pair_lt rows_lt cols_lt
/-- The first pair of gathers is in range. -/
theorem chk_first : k0_chk1 rows cols k0_pay5 :=
  have h : ∀ x, (k0_pay5 x).toNat < 3 := fun x => by rw [first_eq]; decide
  ⟨pair_lt rows_lt h, pair_lt h cols_lt⟩
/-- The second pair of gathers is in range. -/
theorem chk_second : k0_chk2 rows cols k0_pay6 :=
  have h : ∀ x, (k0_pay6 x).toNat < 3 := fun x => by rw [second_eq]; decide
  ⟨pair_lt rows_lt h, pair_lt h cols_lt⟩
/-- The third pair of gathers is in range. -/
theorem chk_third : k0_chk3 rows cols k0_pay7 :=
  have h : ∀ x, (k0_pay7 x).toNat < 3 := fun x => by rw [third_eq]; decide
  ⟨pair_lt rows_lt h, pair_lt h cols_lt⟩

end Cert.KernelIdeal.Spmm

end
-- ==== Proof.Product.lean ====
/- What the kernel writes: the three-term sums of the matrix product, one per unmasked lane, scattered so that every element
   of the three by three buffer is written. The buffer's contents before the scatter do not matter. -/
module

public import proofs.«01_k».proof.Proof.Lanes
public import Idealize.ShloMosaic.Lib.ValueIdx

@[expose] public section

noncomputable section

namespace Cert.KernelIdeal.Spmm

open Cert.KernelIdeal Cert.KernelIdeal.Gen Idealize.ShloMosaic Idealize.ShloMosaic.ValueIdx

/-! ## A masked scatter that covers its buffer -/

section Scatter
variable {F : FTy → Type} [FloatOps F] {s : Shape} {e : EltTy} {d : Fin 1 → Nat}
  (idxs : Fin s.rank → IVec ⟨1, d⟩ 32) (v : Vec F ⟨1, d⟩ e) (mask : IVec ⟨1, d⟩ 1)
  (h : ∀ a x, (idxs a x).toNat < s.size a)

/-- The element at `j` after a run of single-lane writes, `step` writing lane `k`'s value at the index it names if `k` is
    unmasked: `G`'s value, if every unmasked lane writes what `G` has at its index, and the element either had that value
    before or is named by an unmasked lane of the list. -/
theorem foldl_cover (step : Vec F s e → Fin (d 0) → Vec F s e)
    (hon : ∀ g k, mask (Shape.ofLane k) = 1 → step g k (idxAt idxs h (Shape.ofLane k)) = v (Shape.ofLane k))
    (hoff : ∀ g k j, ¬(mask (Shape.ofLane k) = 1 ∧ idxAt idxs h (Shape.ofLane k) = j) → step g k j = g j)
    (G : Vec F s e) (hv : ∀ x, mask x = 1 → v x = G (idxAt idxs h x)) (j : s.Idx) :
    ∀ (l : List (Fin (d 0))) (f : Vec F s e),
      (f j = G j ∨ ∃ k ∈ l, mask (Shape.ofLane k) = 1 ∧ idxAt idxs h (Shape.ofLane k) = j) → l.foldl step f j = G j
  | [], f, hf => hf.elim id fun ⟨_, hk, _⟩ => absurd hk List.not_mem_nil
  | k :: l, f, hf => by
    rw [List.foldl_cons]
    refine foldl_cover step hon hoff G hv j l _ ?_
    by_cases hk : mask (Shape.ofLane k) = 1 ∧ idxAt idxs h (Shape.ofLane k) = j
    · obtain ⟨hm, rfl⟩ := hk
      exact .inl ((hon f k hm).trans (hv _ hm))
    · rcases hf with hf | ⟨k', hmem, hk'⟩
      · exact .inl ((hoff f k j hk).trans hf)
      · rcases List.mem_cons.mp hmem with rfl | hmem
        · exact absurd hk' hk
        · exact .inr ⟨k', hmem, hk'⟩

/-- A masked scatter whose unmasked lanes name every element, each writing what `G` has at its index, leaves `G`. -/
theorem storeIdx_cover (f G : Vec F s e) (hv : ∀ x, mask x = 1 → v x = G (idxAt idxs h x))
    (hc : ∀ j, ∃ k : Fin (d 0), mask (Shape.ofLane k) = 1 ∧ idxAt idxs h (Shape.ofLane k) = j) :
    storeIdx f idxs v mask false h = G := by
  funext j
  obtain ⟨k, hk⟩ := hc j
  unfold storeIdx
  refine foldl_cover idxs v mask h _ (fun g k hm => ?_) (fun g k j hn => ?_) G hv j _ f (.inr ⟨k, List.mem_finRange k, hk⟩)
  · dsimp only
    rw [if_pos hm, if_pos fun _ => rfl]
    rfl
  · dsimp only
    by_cases hm : mask (Shape.ofLane k) = 1
    · rw [if_pos hm, if_neg fun hh => hn ⟨hm, funext fun a => Fin.ext (hh a).symm⟩]
    · rw [if_neg hm]

end Scatter

/-! ## The product -/

section Product
variable {F : FTy → Type} [FloatOps F]

/-- The product of two three by three matrices as the kernel sums it: the first two products added, then the third. -/
def prod (A B : FVec F S3x3 .f32) : FVec F S3x3 .f32 := fun j =>
  FloatOps.addf (FloatOps.addf (FloatOps.mulf (A (ix2 (j 0) 0)) (B (ix2 0 (j 1)))) (FloatOps.mulf (A (ix2 (j 0) 1)) (B (ix2 1 (j 1)))))
    (FloatOps.mulf (A (ix2 (j 0) 2)) (B (ix2 2 (j 1))))

/-- A pair of index vectors names, at a lane, the pair of its two words. -/
theorem idxAt_pair {p q : IVec S16 32} (h : ∀ (a : Fin 2) (x : S16.Idx), ((![p, q] : Fin 2 → IVec S16 32) a x).toNat < S3x3.size a)
    (x : S16.Idx) (a b : Fin 3) (ha : (p x).toNat = a.val) (hb : (q x).toNat = b.val) :
    idxAt (s := S3x3) ![p, q] h x = ix2 a b :=
  funext fun i => match i with
    | 0 => Fin.ext ha
    | 1 => Fin.ext hb

/-- The vector of sums the kernel scatters, as computed from the two gathered matrices. -/
abbrev sums (A B : FVec F S3x3 .f32) : FVec F S16 .f32 :=
  k0_pay8
    (loadIdx (s := S3x3) (e := .f32) A ![rows, k0_pay5] (k0_idx1_inb rows cols k0_pay5 chk_first))
    (loadIdx (s := S3x3) (e := .f32) B ![k0_pay5, cols] (k0_idx2_inb rows cols k0_pay5 chk_first))
    (loadIdx (s := S3x3) (e := .f32) A ![rows, k0_pay6] (k0_idx3_inb rows cols k0_pay6 chk_second))
    (loadIdx (s := S3x3) (e := .f32) B ![k0_pay6, cols] (k0_idx4_inb rows cols k0_pay6 chk_second))
    (loadIdx (s := S3x3) (e := .f32) A ![rows, k0_pay7] (k0_idx5_inb rows cols k0_pay7 chk_third))
    (loadIdx (s := S3x3) (e := .f32) B ![k0_pay7, cols] (k0_idx6_inb rows cols k0_pay7 chk_third))

/-- A lane's sum is the product's element at the index the lane names. -/
theorem sums_apply (A B : FVec F S3x3 .f32) (x : S16.Idx) :
    sums A B x = prod A B (idxAt (s := S3x3) ![rows, cols] (k0_idx7_inb rows cols chk_scatter) x) := by
  have e5 := idxAt_pair (k0_idx1_inb rows cols k0_pay5 chk_first) x ⟨_, rows_lt x⟩ 0 rfl (first_eq x)
  have e5' := idxAt_pair (k0_idx2_inb rows cols k0_pay5 chk_first) x 0 ⟨_, cols_lt x⟩ (first_eq x) rfl
  have e6 := idxAt_pair (k0_idx3_inb rows cols k0_pay6 chk_second) x ⟨_, rows_lt x⟩ 1 rfl (second_eq x)
  have e6' := idxAt_pair (k0_idx4_inb rows cols k0_pay6 chk_second) x 1 ⟨_, cols_lt x⟩ (second_eq x) rfl
  have e7 := idxAt_pair (k0_idx5_inb rows cols k0_pay7 chk_third) x ⟨_, rows_lt x⟩ 2 rfl (third_eq x)
  have e7' := idxAt_pair (k0_idx6_inb rows cols k0_pay7 chk_third) x 2 ⟨_, cols_lt x⟩ (third_eq x) rfl
  have e := idxAt_pair (k0_idx7_inb rows cols chk_scatter) x ⟨_, rows_lt x⟩ ⟨_, cols_lt x⟩ rfl rfl
  rw [e]
  simp only [sums, k0_pay8, addf, mulf, loadIdx, e5, e5', e6, e6', e7, e7', prod]

/-- Every element of the three by three buffer is named by an unmasked lane of the scatter. -/
theorem lanes_cover (j : S3x3.Idx) : ∃ k : Fin 16, k0_pay1 (Shape.ofLane (d := ![16]) k) = 1
    ∧ idxAt (s := S3x3) ![rows, cols] (k0_idx7_inb rows cols chk_scatter) (Shape.ofLane (d := ![16]) k) = j := by
  obtain ⟨a, b, rfl⟩ : ∃ a b : Fin 3, j = ix2 a b := ⟨j 0, j 1, eq_ix2 j⟩
  obtain ⟨x, hm, hr, hc⟩ := lane_of a b
  have hx : Shape.ofLane (d := ![16]) (x 0) = x := funext fun i => by
    obtain rfl : i = 0 := Subsingleton.elim _ _
    rfl
  refine ⟨x 0, ?_, ?_⟩
  · rw [hx]; exact hm
  · rw [hx]; exact idxAt_pair _ x a b hr hc

/-- The scatter of the sums leaves the product in the buffer, whatever the buffer held. -/
theorem scatter_sums (A B f : FVec F S3x3 .f32) :
    storeIdx (e := .f32) f ![rows, cols] (sums A B) k0_pay1 false (k0_idx7_inb rows cols chk_scatter) = prod A B := by
  have hv : ∀ x : S16.Idx, k0_pay1 x = 1 → sums A B x = prod A B (idxAt (s := S3x3) ![rows, cols] (k0_idx7_inb rows cols chk_scatter) x) :=
    fun x _ => sums_apply A B x
  generalize sums A B = v at hv ⊢
  exact storeIdx_cover (s := S3x3) (e := .f32) (d := ![16]) ![rows, cols] v k0_pay1 (k0_idx7_inb rows cols chk_scatter) f (prod A B)
    hv lanes_cover

end Product

end Cert.KernelIdeal.Spmm

end
-- ==== Proof.Tile.lean ====
/- The kernel on its one vector subcore: the two fetches, the six gathers, the scatter and the write-out, run once for any
   float values. The task takes the two arguments and the result array, and gives them back with the result array at the
   product of the arguments. -/
module

public import proofs.«01_k».proof.Proof.Product
public import Idealize.ShloMosaic.Lib.SparseCore.Quiescent
public import Idealize.ShloMosaic.Lib.SparseCore.Ops
public import Idealize.ShloMosaic.Lib.Pipeline.Kit
public import Idealize.ShloMosaic.Lib.Tactic

@[expose] public section

noncomputable section

namespace Cert.KernelIdeal.Spmm

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA
open Idealize.SL.BI (sProp bigSep bigSep_singleton)
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The launch's names -/

/-- The labels of the program, its call set-up, its table of bodies, and the (trivial) measures of its loops. -/
abbrev ΛP : Labels := Pipeline.Sig Λ₀ (Fin 0) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

/-- The semaphores the launch uses are pairwise apart and outlive every task, and no buffer is shared between tasks. -/
theorem launchFacts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-- The ghost state of the launch's handshakes. -/
abbrev UH : Type := URounds (GSem nD τ sig) ℕ
/-- The launch's handshakes beside the counters the local copies use. -/
abbrev UU : Type := UH × Counters

local notation "𝕄" => MT nD τ sig (HIx 1) (Elt F) ℕ UU ℕ

/-- Where the handshakes' ghost state sits in the whole. -/
abbrev EH : Emb UH (MT nD τ sig (HIx 1) (Elt F) ℕ UU ℕ) := embL

/-! The six buffers as the task's body names them: the two arguments, the result array, and the three scratch buffers. -/

abbrev aW : Memref sig .scVector Space.hbm S3x3 .f32 := Memref.whole main_arg1_scv
abbrev bW : Memref sig .scVector Space.hbm S3x3 .f32 := Memref.whole main_arg0_scv
abbrev oW : Memref sig .scVector Space.hbm S3x3 .f32 := Memref.whole main_v0_scv
abbrev saW : Memref sig .scVector Space.vmem S3x3 .f32 := Memref.whole cc0_scratch0
abbrev sbW : Memref sig .scVector Space.vmem S3x3 .f32 := Memref.whole cc0_scratch1
abbrev soW : Memref sig .scVector Space.vmem S3x3 .f32 := Memref.whole cc0_scratch2

/-- The left factor `M`, the right factor `x` and the kernel's result, as locations of a device. -/
abbrev aLoc (d : Dev nD) : Loc nD τ sig := (SparseCore.T d).loc main_arg1
abbrev bLoc (d : Dev nD) : Loc nD τ sig := (SparseCore.T d).loc main_arg0
abbrev oLoc (d : Dev nD) : Loc nD τ sig := (SparseCore.T d).loc main_v0

section Run

variable (d : Dev nD) (L : grid0.Coords)

/-- The core and the subcore of a grid point. -/
abbrev core (L : grid0.Coords) : Fin τ.nSC := (L 0).castLE hcore0
abbrev sub (L : grid0.Coords) : Fin τ.nSub := (L 1).castLE hsub0

omit [FloatOps F] in
/-- What the first fetch leaves in its scratch buffer is the left factor. -/
theorem fetch_a (A : Buf (Elt F) (aLoc d)) (f : Buf (Elt F) ((V d (core L) (sub L)).loc cc0_scratch0)) :
    (saW).view.write (Elt F) f ((aW).view.read (Elt F) A) Finset.univ = A :=
  (View.write_whole_univ _ _ _).trans (View.read_whole _ _)
omit [FloatOps F] in
/-- What the second fetch leaves in its scratch buffer is the right factor. -/
theorem fetch_b (B : Buf (Elt F) (bLoc d)) (f : Buf (Elt F) ((V d (core L) (sub L)).loc cc0_scratch1)) :
    (sbW).view.write (Elt F) f ((bW).view.read (Elt F) B) Finset.univ = B :=
  (View.write_whole_univ _ _ _).trans (View.read_whole _ _)
omit [FloatOps F] in
/-- What the write-out leaves in the result array is what the scratch buffer held. -/
theorem write_out (G : Buf (Elt F) ((V d (core L) (sub L)).loc cc0_scratch2)) (f : Buf (Elt F) (oLoc d)) :
    (oW).view.write (Elt F) f ((soW).view.read (Elt F) G) Finset.univ = G :=
  (View.write_whole_univ _ _ _).trans (View.read_whole _ _)

/-- What the scatter leaves in its scratch buffer, the two fetched buffers at `A` and `B`, is their product. -/
theorem scattered (A B f : FVec F S3x3 .f32) :
    ((soW).access (.whole S3x3)).write (Elt F) f
      (storeIdx (e := .f32) (((soW).access (.whole S3x3)).read (Elt F) f) ![rows, cols]
        (k0_pay8
          (loadIdx (s := S3x3) (e := .f32) (((saW).access (.whole S3x3)).read (Elt F) A) ![rows, k0_pay5] (k0_idx1_inb rows cols k0_pay5 chk_first))
          (loadIdx (s := S3x3) (e := .f32) (((sbW).access (.whole S3x3)).read (Elt F) B) ![k0_pay5, cols] (k0_idx2_inb rows cols k0_pay5 chk_first))
          (loadIdx (s := S3x3) (e := .f32) (((saW).access (.whole S3x3)).read (Elt F) A) ![rows, k0_pay6] (k0_idx3_inb rows cols k0_pay6 chk_second))
          (loadIdx (s := S3x3) (e := .f32) (((sbW).access (.whole S3x3)).read (Elt F) B) ![k0_pay6, cols] (k0_idx4_inb rows cols k0_pay6 chk_second))
          (loadIdx (s := S3x3) (e := .f32) (((saW).access (.whole S3x3)).read (Elt F) A) ![rows, k0_pay7] (k0_idx5_inb rows cols k0_pay7 chk_third))
          (loadIdx (s := S3x3) (e := .f32) (((sbW).access (.whole S3x3)).read (Elt F) B) ![k0_pay7, cols] (k0_idx6_inb rows cols k0_pay7 chk_third)))
        k0_pay1 false (k0_idx7_inb rows cols chk_scatter)) Finset.univ = prod A B := by
  have ha : ((saW).access (.whole S3x3)).read (Elt F) A = A := Memref.read_access_whole (Elt F) cc0_scratch0 A
  have hb : ((sbW).access (.whole S3x3)).read (Elt F) B = B := Memref.read_access_whole (Elt F) cc0_scratch1 B
  rw [ha, hb]
  refine (Memref.write_access_whole_univ (Elt F) cc0_scratch2 f _).trans ?_
  exact scatter_sums A B _

omit [FloatOps F] in
/-- The elements the scatter may write are all of its buffer. -/
theorem scatter_set (f : Buf (Elt F) ((V d (core L) (sub L)).loc cc0_scratch2)) :
    (((soW).access (.whole S3x3)).loc (V d (core L) (sub L)) ↦[((soW).access (.whole S3x3)).set]{fullShare} f : sProp 𝕄)
      = ((soW).view.loc (V d (core L) (sub L)) ↦{fullShare} f) :=
  congrArg (fun s => ((soW).view.loc (V d (core L) (sub L)) ↦[s]{fullShare} f : sProp 𝕄)) (Memref.set_access_whole cc0_scratch2)

/-- The body from its six buffers and its three counters: the arguments and the counters come back as they were, the result
    array at the product. -/
theorem tile_run (O : CellTallies nD τ sig (HIx 1)) (W : Waits sig (HIx 1))
    (A : Buf (Elt F) (aLoc d)) (B : Buf (Elt F) (bLoc d)) (fo : Buf (Elt F) (oLoc d))
    (f0 : Buf (Elt F) ((V d (core L) (sub L)).loc cc0_scratch0)) (f1 : Buf (Elt F) ((V d (core L) (sub L)).loc cc0_scratch1))
    (f2 : Buf (Elt F) ((V d (core L) (sub L)).loc cc0_scratch2)) :
    (iprop(Transfers.MayWaits (V d (core L) (sub L)) (none : HIx 1) O
        ∗ ((aW).view.loc (V d (core L) (sub L)) ↦{fullShare} A)
        ∗ ((bW).view.loc (V d (core L) (sub L)) ↦{fullShare} B)
        ∗ ((oW).view.loc (V d (core L) (sub L)) ↦{fullShare} fo)
        ∗ ((saW).view.loc (V d (core L) (sub L)) ↦{fullShare} f0)
        ∗ ((sbW).view.loc (V d (core L) (sub L)) ↦{fullShare} f1)
        ∗ ((soW).view.loc (V d (core L) (sub L)) ↦{fullShare} f2)
        ∗ semVal (V d (core L) (sub L), SemLoc.dma cc0_scoped0.sem) 0
        ∗ semVal (V d (core L) (sub L), SemLoc.dma cc0_scoped1.sem) 0
        ∗ semVal (V d (core L) (sub L), SemLoc.dma cc0_scoped2.sem) 0
        ∗ owes (V d (core L) (sub L)) O W) : sProp 𝕄)
      ⊢ wp frame (wpE (defs₀ (F := F)) 𝒱₀ (V d (core L) (sub L)) none) Set.univ
          (cc0__spmm_sc L aW (Memref.isWhole_whole _) bW (Memref.isWhole_whole _) oW (Memref.isWhole_whole _)
            saW (Memref.isWhole_whole _) sbW (Memref.isWhole_whole _) soW (Memref.isWhole_whole _) cc0_scoped0 cc0_scoped1 cc0_scoped2)
          fun _ => iprop(((aW).view.loc (V d (core L) (sub L)) ↦{fullShare} A)
            ∗ ((bW).view.loc (V d (core L) (sub L)) ↦{fullShare} B)
            ∗ ((oW).view.loc (V d (core L) (sub L)) ↦{fullShare} prod (F := F) A B)
            ∗ (∃ f, (saW).view.loc (V d (core L) (sub L)) ↦{fullShare} f)
            ∗ (∃ f, (sbW).view.loc (V d (core L) (sub L)) ↦{fullShare} f)
            ∗ (∃ f, (soW).view.loc (V d (core L) (sub L)) ↦{fullShare} f)
            ∗ semVal (V d (core L) (sub L), SemLoc.dma cc0_scoped0.sem) 0
            ∗ semVal (V d (core L) (sub L), SemLoc.dma cc0_scoped1.sem) 0
            ∗ semVal (V d (core L) (sub L), SemLoc.dma cc0_scoped2.sem) 0
            ∗ ∃ W', ⌜∀ p ∈ W', p ∈ W ∨ p.2 = none⌝ ∗ owes (V d (core L) (sub L)) O W') := by
  rw [cc0__spmm_sc_eq_skeleton]; unfold cc0__spmm_sc_skel
  rw [k0_part1_eq_skeleton]; unfold k0_part1_skel
  iintro ⟨Hmw, Ha, Hb, Ho, Hsa, Hsb, Hso, Hc0, Hc1, Hc2, HO⟩
  sl_exec
  ihave Hsa := (Entails.of_eq (show ((saW).view.loc (V d (core L) (sub L)) ↦{fullShare} (saW).view.write (Elt F) f0 (tile_run.sl.dma0 d A) Finset.univ : sProp 𝕄)
    = ((saW).view.loc (V d (core L) (sub L)) ↦{fullShare} A) from congrArg _ (fetch_a d L A f0))) $$ Hsa
  ihave Hsb := (Entails.of_eq (show ((sbW).view.loc (V d (core L) (sub L)) ↦{fullShare} (sbW).view.write (Elt F) f1 (tile_run.sl.dma0_1 d B) Finset.univ : sProp 𝕄)
    = ((sbW).view.loc (V d (core L) (sub L)) ↦{fullShare} B) from congrArg _ (fetch_b d L B f1))) $$ Hsb
  rw [wp_bind]
  iapply (SparseCore.wp_vectorLoadIdx 𝒱₀ (V d (core L) (sub L)) none Set.univ (base := saW) (S := Finset.univ) (q := fullShare) (Finset.subset_univ _)) $$ Hsa; iintro Hsa
  iapply (SparseCore.wp_vectorLoadIdx 𝒱₀ (V d (core L) (sub L)) none Set.univ (base := sbW) (S := Finset.univ) (q := fullShare) (Finset.subset_univ _)) $$ Hsb; iintro Hsb
  sl_exec
  iapply (SparseCore.wp_vectorLoadIdx 𝒱₀ (V d (core L) (sub L)) none Set.univ (base := saW) (S := Finset.univ) (q := fullShare) (Finset.subset_univ _)) $$ Hsa; iintro Hsa
  iapply (SparseCore.wp_vectorLoadIdx 𝒱₀ (V d (core L) (sub L)) none Set.univ (base := sbW) (S := Finset.univ) (q := fullShare) (Finset.subset_univ _)) $$ Hsb; iintro Hsb
  sl_exec
  iapply (SparseCore.wp_vectorLoadIdx 𝒱₀ (V d (core L) (sub L)) none Set.univ (base := saW) (S := Finset.univ) (q := fullShare) (Finset.subset_univ _)) $$ Hsa; iintro Hsa
  iapply (SparseCore.wp_vectorLoadIdx 𝒱₀ (V d (core L) (sub L)) none Set.univ (base := sbW) (S := Finset.univ) (q := fullShare) (Finset.subset_univ _)) $$ Hsb; iintro Hsb
  rw [wp_pure]
  imodintro
  ihave Hso := (Entails.of_eq (scatter_set d L f2).symm) $$ Hso
  iapply (SparseCore.wp_vectorStoreIdx 𝒱₀ (V d (core L) (sub L)) none Set.univ (base := soW)) $$ Hso; iintro Hso
  ihave Hso := (Entails.of_eq ((congrArg (fun f => (((soW).access (.whole S3x3)).loc (V d (core L) (sub L)) ↦[((soW).access (.whole S3x3)).set]{fullShare} f : sProp 𝕄))
    (scattered A B f2)).trans (scatter_set d L (prod (F := F) A B)))) $$ Hso
  sl_exec
  sl_step
  ihave Ho := (Entails.of_eq (show ((oW).view.loc (V d (core L) (sub L)) ↦{fullShare} (oW).view.write (Elt F) fo (tile_run.sl.dma0_2 d A B) Finset.univ : sProp 𝕄)
    = ((oW).view.loc (V d (core L) (sub L)) ↦{fullShare} prod (F := F) A B) from congrArg _ (write_out d L (prod (F := F) A B) fo))) $$ Ho
  isplitl [Ha]; · iexact Ha
  isplitl [Hb]; · iexact Hb
  isplitl [Ho]; · iexact Ho
  isplitl [Hsa]; · iexists A; iexact Hsa
  isplitl [Hsb]; · iexists B; iexact Hsb
  isplitl [Hso]; · iexists _; iexact Hso
  isplitl [Hc0]; · iexact Hc0
  isplitl [Hc1]; · iexact Hc1
  isplitl [Hc2]; · iexact Hc2
  iexists (insert (SemLoc.dma cc0_scoped2.sem, default) (insert (SemLoc.dma cc0_scoped1.sem, default) (insert (SemLoc.dma cc0_scoped0.sem, default) W)))
  isplitr
  · ipureintro
    intro p hp
    simp only [Finset.mem_insert] at hp
    rcases hp with rfl | rfl | rfl | hp
    · exact .inr rfl
    · exact .inr rfl
    · exact .inr rfl
    · exact .inl hp
  · iexact HO

/-! ## The body in the launch's terms -/

/-- The three counters of the task's copies. -/
abbrev cell0 (d : Dev nD) (L : grid0.Coords) : GSem nD τ sig := (V d (core L) (sub L), .dma cc0_scoped0.sem)
abbrev cell1 (d : Dev nD) (L : grid0.Coords) : GSem nD τ sig := (V d (core L) (sub L), .dma cc0_scoped1.sem)
abbrev cell2 (d : Dev nD) (L : grid0.Coords) : GSem nD τ sig := (V d (core L) (sub L), .dma cc0_scoped2.sem)

omit [FloatOps F] in
/-- The task's own counters at zero: the three its copies use, and the rest. -/
theorem cells_split : ∃ R : Finset (GSem nD τ sig), (ownSems0 (V d (core L) (sub L)) : sProp 𝕄)
    = iprop(semVal (cell0 d L) 0 ∗ semVal (cell1 d L) 0 ∗ semVal (cell2 d L) 0 ∗ bigSep R fun g => semVal g 0) := by
  have h0 : cell0 d L ∈ ownCells (V d (core L) (sub L)) :=
    mem_ownCells.mpr ⟨rfl, show (SemLoc.dma cc0_scoped0.sem : SemLoc sig).isScoped .scVector = true by decide⟩
  have h1 : cell1 d L ∈ ownCells (V d (core L) (sub L)) :=
    mem_ownCells.mpr ⟨rfl, show (SemLoc.dma cc0_scoped1.sem : SemLoc sig).isScoped .scVector = true by decide⟩
  have h2 : cell2 d L ∈ ownCells (V d (core L) (sub L)) :=
    mem_ownCells.mpr ⟨rfl, show (SemLoc.dma cc0_scoped2.sem : SemLoc sig).isScoped .scVector = true by decide⟩
  have n10 : cell1 d L ≠ cell0 d L := fun e => absurd (congrArg Prod.snd e)
    (show (SemLoc.dma cc0_scoped1.sem : SemLoc sig) ≠ SemLoc.dma cc0_scoped0.sem by decide)
  have n20 : cell2 d L ≠ cell0 d L := fun e => absurd (congrArg Prod.snd e)
    (show (SemLoc.dma cc0_scoped2.sem : SemLoc sig) ≠ SemLoc.dma cc0_scoped0.sem by decide)
  have n21 : cell2 d L ≠ cell1 d L := fun e => absurd (congrArg Prod.snd e)
    (show (SemLoc.dma cc0_scoped2.sem : SemLoc sig) ≠ SemLoc.dma cc0_scoped1.sem by decide)
  refine ⟨(((ownCells (V d (core L) (sub L))).erase (cell0 d L)).erase (cell1 d L)).erase (cell2 d L), ?_⟩
  unfold SparseCore.Cfg.ownSems0
  rw [SparseCore.bigSep_erase' h0, SparseCore.bigSep_erase' (Finset.mem_erase.mpr ⟨n10, h1⟩),
    SparseCore.bigSep_erase' (Finset.mem_erase.mpr ⟨n21, Finset.mem_erase.mpr ⟨n20, h2⟩⟩)]

/-- The task's three scratch buffers, as buffers of the device. -/
abbrev buf (L : grid0.Coords) (r : Ref sig .scVector) : DevRef τ sig := (Proc.scVector (core L) (sub L)).devRef r

omit [FloatOps F] in
/-- The task's own buffers: its three scratch buffers at some contents, and the rest. -/
theorem bufs_split : ∃ R : Finset (DevRef τ sig), (ownBufs (V d (core L) (sub L)) : sProp 𝕄)
    = iprop((∃ f, (V d (core L) (sub L)).loc cc0_scratch0 ↦{fullShare} f) ∗ (∃ f, (V d (core L) (sub L)).loc cc0_scratch1 ↦{fullShare} f)
        ∗ (∃ f, (V d (core L) (sub L)).loc cc0_scratch2 ↦{fullShare} f)
        ∗ bigSep R fun b => iprop(∃ f, ((d, b) : Loc nD τ sig) ↦{fullShare} f)) := by
  have m0 : buf L cc0_scratch0 ∈ ownRefs (τ := τ) (.scVector (core L) (sub L)) :=
    SparseCore.Cfg.mem_ownRefs_of_owner (p := Proc.scVector (core L) (sub L)) (b := buf L cc0_scratch0) rfl
  have m1 : buf L cc0_scratch1 ∈ ownRefs (τ := τ) (.scVector (core L) (sub L)) :=
    SparseCore.Cfg.mem_ownRefs_of_owner (p := Proc.scVector (core L) (sub L)) (b := buf L cc0_scratch1) rfl
  have m2 : buf L cc0_scratch2 ∈ ownRefs (τ := τ) (.scVector (core L) (sub L)) :=
    SparseCore.Cfg.mem_ownRefs_of_owner (p := Proc.scVector (core L) (sub L)) (b := buf L cc0_scratch2) rfl
  have ne {r r' : Ref sig .scVector} (h : r ≠ r') : buf L r ≠ buf L r' := fun e => h (Proc.devRef_injective _ e)
  refine ⟨(((ownRefs (τ := τ) (.scVector (core L) (sub L))).erase (buf L cc0_scratch0)).erase (buf L cc0_scratch1)).erase (buf L cc0_scratch2), ?_⟩
  unfold SparseCore.Cfg.ownBufs
  refine (SparseCore.bigSep_erase' m0).trans ?_
  rw [SparseCore.bigSep_erase' (Finset.mem_erase.mpr ⟨ne (by decide), m1⟩),
    SparseCore.bigSep_erase' (Finset.mem_erase.mpr ⟨ne (by decide), Finset.mem_erase.mpr ⟨ne (by decide), m2⟩⟩)]

/-- The task: from the two arguments, the result array and what a task owns, to the same with the result array at the
    product of the arguments. -/
theorem tile_body (hF : (K (F := F)).Facts) (O : CellTallies nD τ sig (HIx 1)) (W : Waits sig (HIx 1)) (hO : ∀ g, O g none = 0)
    (A : Buf (Elt F) (aLoc d)) (B : Buf (Elt F) (bLoc d)) (fo : Buf (Elt F) (oLoc d)) :
    (iprop(levAts (K (F := F)).L (K (F := F)).lev ∗ emp
        ∗ ((aLoc d ↦{fullShare} A) ∗ (bLoc d ↦{fullShare} B) ∗ (oLoc d ↦{fullShare} fo))
        ∗ scopedBufs (V d (core L) (sub L)) ∗ scopedSems0 (V d (core L) (sub L)) ∗ owes (V d (core L) (sub L)) O W) : sProp 𝕄)
      ⊢ wp frame (wpE (defs₀ (F := F)) 𝒱₀ (V d (core L) (sub L)) none) Set.univ
          (cc0__spmm_sc L aW (Memref.isWhole_whole _) bW (Memref.isWhole_whole _) oW (Memref.isWhole_whole _)
            saW (Memref.isWhole_whole _) sbW (Memref.isWhole_whole _) soW (Memref.isWhole_whole _) cc0_scoped0 cc0_scoped1 cc0_scoped2)
          fun _ => iprop(((aLoc d ↦{fullShare} A) ∗ (bLoc d ↦{fullShare} B) ∗ (oLoc d ↦{fullShare} prod (F := F) A B))
            ∗ scopedBufs (V d (core L) (sub L)) ∗ scopedSems0 (V d (core L) (sub L))
            ∗ ∃ W', ⌜∀ p ∈ W', p ∈ W ∨ p.2 = none⌝ ∗ owes (V d (core L) (sub L)) O W') := by
  obtain ⟨RC, hRC⟩ := cells_split (F := F) d L
  obtain ⟨RB, hRB⟩ := bufs_split (F := F) d L
  rw [(K (F := F)).scopedBufs_V hF d (core L) (sub L), SparseCore.Cfg.scopedSems0_V (Val := Elt F) d (core L) (sub L), hRC, hRB]
  iintro ⟨#Hlv, -, ⟨Ha, Hb, Ho⟩, ⟨⟨%f0, Hsa⟩, ⟨%f1, Hsb⟩, ⟨%f2, Hso⟩, HRB⟩, ⟨Hc0, Hc1, Hc2, HRC⟩, HO⟩
  ihave Hmw := ((K (F := F)).mayWaits_none (thr := V d (core L) (sub L)) hO) $$ Hlv
  iapply (wp_wand_r Idealize.ShloMosaic.frame (wpE (defs₀ (F := F)) 𝒱₀ (V d (core L) (sub L)) none) Set.univ)
  isplitl [Hmw Ha Hb Ho Hsa Hsb Hso Hc0 Hc1 Hc2 HO]
  · iapply (tile_run d L O W A B fo f0 f1 f2)
    isplitl [Hmw]; · iexact Hmw
    isplitl [Ha]; · iexact Ha
    isplitl [Hb]; · iexact Hb
    isplitl [Ho]; · iexact Ho
    isplitl [Hsa]; · iexact Hsa
    isplitl [Hsb]; · iexact Hsb
    isplitl [Hso]; · iexact Hso
    isplitl [Hc0]; · iexact Hc0
    isplitl [Hc1]; · iexact Hc1
    isplitl [Hc2]; · iexact Hc2
    iexact HO
  iintro %_ ⟨Ha, Hb, Ho, Hsa, Hsb, Hso, Hc0, Hc1, Hc2, HO⟩
  isplitl [Ha Hb Ho]
  · isplitl [Ha]; · iexact Ha
    isplitl [Hb]; · iexact Hb
    iexact Ho
  isplitl [Hsa Hsb Hso HRB]
  · isplitl [Hsa]; · iexact Hsa
    isplitl [Hsb]; · iexact Hsb
    isplitl [Hso]; · iexact Hso
    iexact HRB
  isplitl [Hc0 Hc1 Hc2 HRC]
  · isplitl [Hc0]; · iexact Hc0
    isplitl [Hc1]; · iexact Hc1
    isplitl [Hc2]; · iexact Hc2
    iexact HRC
  iexact HO

end Run

end Cert.KernelIdeal.Spmm

end
-- ==== Proof.Launch.lean ====
/- The whole program: the call on its one subcore, then the reshape on the TensorCore. Every run ends with the result at the
   product of the arguments in the result's shape, the arguments as they were, and every semaphore counter at zero. It is
   stated over any float values, so that it serves the kernel and its idealization alike. -/
module

public import proofs.«01_k».proof.Proof.Tile
public import Idealize.ShloMosaic.Lib.StableHlo.Run

@[expose] public section

noncomputable section

namespace Cert.KernelIdeal.Spmm

open Cert.KernelIdeal Cert.KernelIdeal.Gen
open Idealize.ShloMosaic
open Idealize.ShloMosaic.SparseCore (S V T)
open Idealize.ShloMosaic.SparseCore.Cfg (HIx Pay)
open Idealize.ShloMosaic.StableHlo (held wp_hlo_within)
open Idealize.SL Idealize.SL.RA
open Idealize.SL.BI (sProp bigSep bigSep_singleton bigSep_emp_const bigSep_univ_of_subsingleton bigSep_congr)
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## What the call takes and what it hands back -/

/-- The product of the two arguments a device starts with. -/
abbrev want (d : Dev nD) : Buf (Elt F) (oLoc d) := prod (F := F) (m (aLoc d)) (m (bLoc d))

/-- The two arguments as launched, beside the call's result array at `f`. -/
abbrev three (d : Dev nD) (f : Buf (Elt F) (oLoc d)) : sProp 𝕄 :=
  iprop((aLoc d ↦{fullShare} m (aLoc d)) ∗ (bLoc d ↦{fullShare} m (bLoc d)) ∗ (oLoc d ↦{fullShare} f))

/-- The call moves the three arrays to the one subcore, and back with the result array at the product. -/
def P : (K (F := F)).Pay (nD := nD) (Val := Elt F) (Name := ℕ) (U := UU) where
  st := fun _ d _ => three m d (m (oLoc d))
  dn := fun _ d _ => three m d (want m d)
  go := fun _ d _ _ => three m d (m (oLoc d))
  td := fun _ d _ _ => three m d (want m d)
  x := fun _ _ => iprop(emp)

instance : (P m).IsStorable where
  st q d _ := by unfold P; infer_instance
  dn q d _ := by unfold P; infer_instance
  go q d _ _ := by unfold P; infer_instance
  td q d _ _ := by unfold P; infer_instance

/-! ## The subcore's side of the call -/

/-- The grid point of a core and a subcore. -/
def coordsV (c : Fin (grid0.bound 0)) (s : Fin (grid0.bound 1)) : grid0.Coords :=
  fun | 0 => c | 1 => s | ⟨_ + 2, h⟩ => absurd h (Nat.not_lt.2 (Nat.le_add_left _ _))

/-- What a vector subcore runs when the call reaches it. -/
theorem defs₀_vector (c : Fin τ.nSC) (s : Fin τ.nSub) :
    defs₀ (F := F) (.scVector c s) 0 ()
      = SparseCore.onTile hcore0 hsub0 (fun c s => cc0__spmm_sc (coordsV c s)
          aW (Memref.isWhole_whole _) bW (Memref.isWhole_whole _) oW (Memref.isWhole_whole _)
          saW (Memref.isWhole_whole _) sbW (Memref.isWhole_whole _) soW (Memref.isWhole_whole _) cc0_scoped0 cc0_scoped1 cc0_scoped2) ⟨⟩ c s := rfl

omit [FloatOps F] in
/-- Waits of the task's own are among those a launched task may leave. -/
theorem waits_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'
  isplitr
  · ipureintro; exact fun p hp => (hW' p hp).imp_right Or.inl
  · iexact HO

/-- The subcore meets the call: from what is sent to it, it runs and hands back what is owed. -/
theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) hF O W hO (m (aLoc d)) (m (bLoc d)) (m (oLoc d))).trans
    (wp_mono frame _ _ fun _ => waits_weaken)

/-- With one subcore, the core's part of the call is the subcore's. -/
theorem vecSplit : (K (F := F)).VecSplit' (P m) 0 := by
  intro d c
  have one (X : sProp 𝕄) : (bigSep Finset.univ fun _ : Fin ((K (F := F)).nSub 0) => X) = X :=
    bigSep_univ_of_subsingleton (0 : Fin 1)
  show three m d (m (oLoc d)) ⊢ |={Set.univ}=> iprop(
      (bigSep Finset.univ fun _ : Fin ((K (F := F)).nSub 0) => three m d (m (oLoc d)))
      ∗ ((bigSep Finset.univ fun _ : Fin ((K (F := F)).nSub 0) => three m d (want m d)) -∗ three m d (want m d)))
  rw [one, one]
  iintro H; imodintro
  isplitl [H]; · iexact H
  iintro H; iexact H

/-! ## The launch's ghost state: the handshakes, and nothing of the kernel's own -/

/-- The ghost state at the start: the handshakes' beginning, and nothing beside it. -/
def u₀ : UU := (initOf (K (F := F)).hsCells (K (F := F)).hsToks, 1)

/-- The handshakes' part is dealt out; every thread's part of the kernel's own state is empty. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have none' {I : Type} (s : Finset I) : (bigSep s fun _ => iprop(emp)) = (iprop(emp) : sProp 𝕄) := bigSep_emp_const s
  unfold u₀
  iintro Hu
  ihave H := (ownU_pair _ _) $$ Hu
  icases H with ⟨HH, -⟩
  imodintro
  isplitl [HH]; · iexact HH
  isplitr; · rw [none']; iempintro
  rw [show (bigSep Finset.univ fun thr : Thread nD τ => bigSep Finset.univ fun q : Fin 1 => (P m).x q thr) = (iprop(emp) : sProp 𝕄) from
    (bigSep_congr fun _ _ => none' _).trans (none' _)]
  iempintro

/-! ## The program on the TensorCore -/

/-- The program's result, as a location of a device. -/
abbrev rLoc (d : Dev nD) : Loc nD τ sig := (SparseCore.T d).loc main_v1

/-- The call's result and the program's, as buffers of the device. -/
abbrev o' : DevRef τ sig := Proc.devRef .tc (main_v0 : Ref sig .tc)
abbrev r' : DevRef τ sig := Proc.devRef .tc (main_v1 : Ref sig .tc)

/-- The reshape of the call's result. -/
abbrev opReshape : HloOp τ sig (Elt F) := StableHlo.reshape main_v0 main_v1 (rfl : (.f32 : EltTy) = .f32) shapeCasts_S3x3_S1x3x3x1

/-- The product in the shape of the program's result. -/
abbrev result (d : Dev nD) : Buf (Elt F) (rLoc d) := shapeCast S1x3x3x1 (want m d) shapeCasts_S3x3_S1x3x3x1

omit [FloatOps F] in
/-- The TensorCore's arrays are the two arguments, the call's result and the program's. -/
theorem arrays_eq (d : Dev nD) (W : (b : Ref sig .tc) → Buf (Elt F) ((d.tc : Thread nD τ).loc b)) :
    (unscopedBufs d W : sProp 𝕄) = iprop((bLoc d ↦{fullShare} W main_arg0) ∗ (aLoc d ↦{fullShare} W main_arg1)
      ∗ (oLoc d ↦{fullShare} W main_v0) ∗ rLoc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

omit [FloatOps F] in
/-- The two arrays of the reshape at a valuation. -/
theorem pair_eq (d : Dev nD) (W : Valuation τ sig (Elt F)) :
    (held (T d) {o', r'} W : sProp 𝕄) = iprop((oLoc d ↦{fullShare} W o') ∗ rLoc d ↦{fullShare} W r') := by
  unfold held
  rw [SparseCore.bigSep_insert' (by decide), bigSep_singleton]

/-- What the buffers hold when the call has returned. -/
def after (d : Dev nD) : Valuation τ sig (Elt F) := Function.update (fun b => m (d, b)) o' (want m d)

/-- After the call its result is the product. -/
theorem after_o (d : Dev nD) : after m d o' = want m d := Function.update_self _ _ _
/-- The call leaves the program's result alone. -/
theorem after_r (d : Dev nD) : after m d r' = m (rLoc d) := Function.update_of_ne (show r' ≠ o' by decide) _ _

/-- The reshape leaves the product, in the result's shape, in the program's result. -/
theorem reshaped (d : Dev nD) : (opReshape (F := F)).result (after m d) r' = result m d := by
  refine (StableHlo.reshape_result main_v0 main_v1 _ _ _ _ (after m d)).trans ?_
  rw [show after m d (Proc.devRef .tc (main_v0 : Ref sig .tc)) = want m d from after_o m d]
  rfl

/-- The reshape touches only the call's result and the program's. -/
theorem reshape_bufs : (opReshape (F := F)).bufs ⊆ {o', r'} := show ({o', r'} : Finset (DevRef τ sig)) ⊆ {o', r'} from Finset.Subset.refl _

/-- With one core, the call takes one part: the two arguments and the result array as launched. -/
theorem call_takes (d : Dev nD) : (bigSep Finset.univ fun c : Fin ((K (F := F)).nCore 0) => (P m).st 0 d c) = three m d (m (oLoc d)) :=
  bigSep_univ_of_subsingleton (0 : Fin 1)
/-- The part it hands back has the result array at the product. -/
theorem call_gives (d : Dev nD) : (bigSep Finset.univ fun c : Fin ((K (F := F)).nCore 0) => (P m).dn 0 d c) = three m d (want m d) :=
  bigSep_univ_of_subsingleton (0 : Fin 1)

/-- What a device ends with: its arguments as launched and its result at the product. -/
abbrev FIN (d : Dev nD) : sProp 𝕄 :=
  iprop((aLoc d ↦{fullShare} m (aLoc d)) ∗ (bLoc d ↦{fullShare} m (bLoc d)) ∗ (rLoc d ↦{fullShare} result m d))

/-- The program on a device's TensorCore: the call, then the reshape. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [arrays_eq]
  simp only [main, wp_bind, wp_pure]
  iintro ⟨#Hctx, Hst, ⟨Hb, ⟨Hx, Ha, Ho, Hr⟩, Hts, -⟩, -⟩
  iapply ((K (F := F)).wp_run (D (F := F)) 𝒱 (EH := EH) (P := P m) κ d 0) $$ [Hst Hx Ha Ho Hr Hb Hts]
  isplitr; · iexact Hctx
  isplitl [Hst]; · iexact Hst
  isplitl [Hx Ha Ho]
  · rw [call_takes]
    isplitl [Ha]; · iexact Ha
    isplitl [Hx]; · iexact Hx
    iexact Ho
  iintro ⟨Hst, Hdn⟩
  ihave Hdn' := (Entails.of_eq (call_gives m d)) $$ Hdn
  icases Hdn' with ⟨Ha, Hx, Ho⟩
  iapply (wp_hlo_within 𝒱 (SparseCore.T d) none Set.univ (op := opReshape) (S := {o', r'}) reshape_bufs (V := after m d)) $$ [Hb Ho Hr]
  · isplitl [Hb]; · iexact Hb
    rw [pair_eq, after_o, after_r]
    isplitl [Ho]; · iexact Ho
    iexact Hr
  iintro ⟨Hb, Hheld⟩
  ihave Hh := (Entails.of_eq (pair_eq (F := F) d _)) $$ Hheld
  icases Hh with ⟨-, Hr⟩
  ihave Hr := (Entails.of_eq (congrArg (fun f => (rLoc d ↦{fullShare} f : sProp 𝕄)) (reshaped m d))) $$ Hr
  rw [wp_ret]; imodintro; imodintro
  isplitl [Hst]; · iexact Hst
  isplitl [Ha Hx Hr]
  · isplitl [Ha]; · iexact Ha
    isplitl [Hx]; · iexact Hx
    iexact Hr
  isplitl [Hb] <;> iassumption

/-! ## The run -/

/-- The memory a device ends with, read off: the result at the product, both arguments as launched. -/
def fq (d : Dev nD) (s' : Phys nD τ sig (Elt F)) : Prop :=
  s'.mem.mem (rLoc d) = result m d ∧ s'.mem.mem (bLoc d) = m (bLoc d) ∧ s'.mem.mem (aLoc d) = m (aLoc d)

omit [FloatOps F] in
/-- An array owned whole at some contents holds those contents in the machine's memory. -/
theorem read_off (s' : Phys nD τ sig (Elt F)) (ℓ : Loc nD τ sig) (f : Buf (Elt F) ℓ) :
    (iprop(SI s' ∗ (ℓ ↦{fullShare} f)) : sProp 𝕄) ⊢ iprop(⌜s'.mem.mem ℓ = f⌝ ∗ SI s') := by
  iintro H
  ihave H := (persistent_entails_right (SI_pointsTo_agree (st := s') (ℓ := ℓ) (I := Finset.univ) (q := fullShare) (f := f))) $$ H
  icases H with ⟨%h, HSI, -⟩
  isplitr
  · ipureintro; exact funext fun i => h i (Finset.mem_univ i)
  iexact HSI

/-- What a device ends with, beside the machine's state, fixes its memory. -/
theorem hfin (d : Dev nD) (s' : Phys nD τ sig (Elt F)) : iprop(FIN m d ∗ SI s') ⊢ (⌜fq m d s'⌝ : sProp 𝕄) := by
  iintro ⟨⟨Ha, Hb, Hr⟩, HSI⟩
  ihave H := (read_off s' (aLoc d) (m (aLoc d))) $$ [HSI Ha]
  · isplitl [HSI] <;> iassumption
  icases H with ⟨%ha, HSI⟩
  ihave H := (read_off s' (bLoc d) (m (bLoc d))) $$ [HSI Hb]
  · isplitl [HSI] <;> iassumption
  icases H with ⟨%hb, HSI⟩
  ihave H := (read_off s' (rLoc d) (result m d)) $$ [HSI Hr]
  · isplitl [HSI] <;> iassumption
  icases H with ⟨%hr, -⟩
  ipureintro; exact ⟨hr, hb, ha⟩

/-- How every run ends: each device's result at the product of its arguments, its arguments as launched, and every
    semaphore counter at zero. -/
def QC : PUnit × MemSt nD τ sig (Elt F) → Prop := fun r =>
  (∀ c : Dev nD, r.2.mem (rLoc c) = result m c ∧ r.2.mem (bLoc c) = m (bLoc c) ∧ r.2.mem (aLoc c) = m (aLoc c)) ∧ r.2.sem = fun _ => 0

/-- The program runs, from any memory and over any float values, to `QC`. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) launchFacts v₀
    (fun q hq => match q with | 0 => nomatch hq)
    (fun q _ => match q with | 0 => tileObl m launchFacts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.KernelIdeal.Spmm

end
-- ==== Proof.Equation.lean ====
/- The two programs' formulas meet. At the ideal values, the product the kernel forms — three products per element, added left
   to right — is the reference's matrix product. -/
module

public import proofs.«01_k».proof.Proof.Product
public import proofs.«01_k».proof.Proof.Gen.ReferenceIdeal
public import Idealize.ShloMosaic.Lib.StackMember

@[expose] public section

noncomputable section

namespace Cert.KernelIdeal.Spmm

open Cert.KernelIdeal Cert.KernelIdeal.Gen
open Idealize.ShloMosaic Idealize.ShloMosaic.ValueIdx

/-- The kernel's product of two 3×3 matrices is the reference's: at each place, the sum over the contracted coordinate of the
    products of the entries. -/
theorem prod_eq (A B : FVec Ideal S3x3 .f32) :
    prod (F := Ideal) A B = Host.dotGeneral Cert.ReferenceIdeal.dot_S3x3_S3x3_S3x3_1_0_0_1_n_n none A B := by
  show _ = Host.dotGeneral (φ₁ := .f32) (φ₂ := .f32) (DotDims.plain 3 3 3) none A B
  funext j
  obtain ⟨a, b, rfl⟩ : ∃ (a b : Fin 3), j = ix2 a b := ⟨j 0, j 1, eq_ix2 j⟩
  rw [StackMember.dotGeneral_plain_apply, Fin.sum_univ_three]
  rfl

end Cert.KernelIdeal.Spmm

end
-- ==== Proof.lean ====
/- The five claims about the 3×3 product kernel, put together: the kernel, its idealization and the reference each run to the
   end, keep their arguments and leave every semaphore counter at zero; and from the same arguments, at the ideal values, the
   kernel and the reference end with the same result. The run of the kernel is Proof/Launch.lean's, stated once over any float
   values; the equation of the two results is Proof/Equation.lean's. -/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Launch
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel, on its own bits, runs to the end, keeps its two arguments and leaves every semaphore counter at zero. Its text
    is the idealization's, whose run holds over any float values. -/
theorem frame_kernel : Cert.quiescent_Kernel := fun m ρ _ =>
  (θ_run Cert.KernelIdeal.defs _ _).mono (fun _ h => ⟨fun c => (h.1 c).2, h.2⟩) (Cert.KernelIdeal.Spmm.run_main (F := Bits) m ρ)

/-- The same of the idealization, at the ideal values. -/
theorem frame_kernelIdeal : Cert.quiescent_KernelIdeal := fun m ρ _ =>
  (θ_run Cert.KernelIdeal.defs _ _).mono (fun _ h => ⟨fun c => (h.1 c).2, h.2⟩) (Cert.KernelIdeal.Spmm.run_main (F := Ideal) m ρ)

/-- The same of the reference, which has no semaphores at all. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From the same arguments, at the ideal values, the idealization and the reference end with the same result: the product of
    the two matrices in the result's shape. -/
theorem algebraic : Cert.algebraic_KernelIdeal_ReferenceIdeal := fun m ρ m' ρ' _ hm =>
  ⟨Cert.KernelIdeal.Spmm.result m,
    (θ_run Cert.KernelIdeal.defs _ _).mono (fun _ h => h.1) (Cert.KernelIdeal.Spmm.run_main (F := Ideal) m ρ),
    (θ_run Cert.ReferenceIdeal.defs _ _).mono (fun _ h c => ⟨(h c).1.trans (by
      rw [(hm c).1, (hm c).2]
      exact congrArg (fun f => shapeCast _ f Cert.ReferenceIdeal.Gen.facts.shapeCasts_S3x3_S1x3x3x1) (Cert.KernelIdeal.Spmm.prod_eq _ _).symm), (h c).2⟩)
      (Cert.ReferenceIdeal.Value.run (F := Ideal) m' ρ')⟩

/-- All five claims. -/
theorem claim : Cert.Claim :=
  ⟨Cert.Kernel.Gen.facts, Cert.KernelIdeal.Gen.facts, Cert.ReferenceIdeal.Gen.facts,
    frame_kernel, frame_kernelIdeal, frame_referenceIdeal, trivial, algebraic⟩

end Cert.Proof

end
